-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x512 : Shape := ⟨3, ![16, 512, 512]⟩
abbrev S512x512 : Shape := ⟨2, ![512, 512]⟩
abbrev S512 : Shape := ⟨1, ![512]⟩
abbrev S1x512 : Shape := ⟨2, ![1, 512]⟩
abbrev S16x262144 : Shape := ⟨2, ![16, 262144]⟩
abbrev S16x64x512 : Shape := ⟨3, ![16, 64, 512]⟩
abbrev S16x32768 : Shape := ⟨2, ![16, 32768]⟩
abbrev S16x512 : Shape := ⟨2, ![16, 512]⟩
abbrev S1024x512 : Shape := ⟨2, ![1024, 512]⟩
abbrev S1x1x512 : Shape := ⟨3, ![1, 1, 512]⟩
abbrev S16x1x512 : Shape := ⟨3, ![16, 1, 512]⟩

abbrev nBuf : Space → Nat
  | .hbm => 9
  | .vmem => 9
  | .smem => 0
  | _ => 0

abbrev bufTy : (tb : Table) → Fin (tcTables nBuf tb) → BufTy
  | .hbm, ⟨0, _⟩ => ⟨S16x512x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S16x262144, .f32⟩
  | .hbm, ⟨6, _⟩ => ⟨S16x512x512, .f32⟩
  | .hbm, ⟨7, _⟩ => ⟨S16x1x512, .f32⟩
  | .hbm, ⟨8, _⟩ => ⟨S16x512, .f32⟩
  | .local _ .vmem, ⟨0, _⟩ => ⟨S16x64x512, .f32⟩
  | .local _ .vmem, ⟨1, _⟩ => ⟨S16x64x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S16x32768, .f32⟩
  | .local _ .vmem, ⟨6, _⟩ => ⟨S16x32768, .f32⟩
  | .local _ .vmem, ⟨7, _⟩ => ⟨S16x512, .f32⟩
  | .local _ .vmem, ⟨8, _⟩ => ⟨S16x64x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_off1 (c0_i32_12 : BitVec 32) : Fin 2 → Nat :=
  let c0_18 : Index := 0#32
  let c512_i32 : BitVec 32 := 512#32
  let v24 : BitVec 32 := Scalar.muli c0_i32_12 c512_i32
  let v25 : Index := Scalar.indexCast v24
  ![0, v25.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16x512x512 : Shape := ⟨3, ![16, 512, 512]⟩
abbrev S512x512 : Shape := ⟨2, ![512, 512]⟩
abbrev S512 : Shape := ⟨1, ![512]⟩
abbrev S_ : Shape := ⟨0, ![]⟩
abbrev S16x512 : Shape := ⟨2, ![16, 512]⟩
abbrev S512x16x512 : Shape := ⟨3, ![512, 16, 512]⟩
abbrev S1x16x512 : Shape := ⟨3, ![1, 16, 512]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S16x512, .f32⟩
  | .hbm, ⟨6, _⟩ => ⟨S512x16x512, .f32⟩
  | .hbm, ⟨7, _⟩ => ⟨S_, .f32⟩
  | .hbm, ⟨8, _⟩ => ⟨S512x16x512, .f32⟩
  | .hbm, ⟨9, _⟩ => ⟨S_, .i32⟩
  | .hbm, ⟨10, _⟩ => ⟨S512x16x512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S_, .i32⟩
  | .hbm, ⟨15, _⟩ => ⟨S16x512, .f32⟩
  | .hbm, ⟨16, _⟩ => ⟨S512x16x512, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x16x512, .f32⟩
  | .hbm, ⟨22, _⟩ => ⟨S16x512, .f32⟩
  | .hbm, ⟨23, _⟩ => ⟨S512x512, .f32⟩
  | .hbm, ⟨24, _⟩ => ⟨S16x512, .f32⟩
  | .hbm, ⟨25, _⟩ => ⟨S512x512, .f32⟩
  | .hbm, ⟨26, _⟩ => ⟨S16x512, .f32⟩
  | .hbm, ⟨27, _⟩ => ⟨S16x512, .f32⟩
  | .hbm, ⟨28, _⟩ => ⟨S1x512, .f32⟩
  | .hbm, ⟨29, _⟩ => ⟨S16x512, .f32⟩
  | .hbm, ⟨30, _⟩ => ⟨S16x512, .f32⟩
  | .hbm, ⟨31, _⟩ => ⟨S16x512, .f32⟩
  | .hbm, ⟨32, _⟩ => ⟨S1x16x512, .f32⟩
  | .hbm, ⟨33, _⟩ => ⟨S_, .i32⟩
  | .hbm, ⟨34, _⟩ => ⟨S_, .i32⟩
  | .hbm, ⟨35, _⟩ => ⟨S512x16x512, .f32⟩
  | .hbm, ⟨36, _⟩ => ⟨S_, .i32⟩
  | .hbm, ⟨37, _⟩ => ⟨S_, .i32⟩
  | .hbm, ⟨38, _⟩ => ⟨S16x512x512, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_while0c_c_7 : Ref sig .tc := ⟨.hbm, 17, rfl⟩
abbrev main_while0c_v5 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v5 : Ref sig .tc := ⟨.hbm, 22, rfl⟩
abbrev main_while0b_v6 : Ref sig .tc := ⟨.hbm, 23, rfl⟩
abbrev main_while0b_v7 : Ref sig .tc := ⟨.hbm, 24, rfl⟩
abbrev main_while0b_v8 : Ref sig .tc := ⟨.hbm, 25, rfl⟩
abbrev main_while0b_v9 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_v14 : Ref sig .tc := ⟨.hbm, 31, rfl⟩
abbrev main_while0b_call1_v0 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_v15 : Ref sig .tc := ⟨.hbm, 35, rfl⟩
abbrev main_while0b_c_7 : Ref sig .tc := ⟨.hbm, 36, rfl⟩
abbrev main_while0b_v16 : Ref sig .tc := ⟨.hbm, 37, rfl⟩
abbrev main_v4 : Ref sig .tc := ⟨.hbm, 38, rfl⟩

abbrev nD : Nat := 1
abbrev τ : Topo := Topo.v7x

variable {F : FTy → Type} [FloatOps F]

abbrev main_while0_count : Scf.Loop 32 := ⟨0#32, 512#32, 1#32⟩
-- ==== Proof.Recurrence.lean ====
/-
  The recurrence both programs compute, as plain mathematics over the extended reals: one step `next`, the hidden state
  `stateAt` after `t` steps, and the two facts about it the proof uses — it depends only on the inputs of the steps taken,
  and running `a + n` steps is running `n` more from where `a` steps ended. At the end
  the two results of the programs as functions of the arguments (`outputs`, `last`).
-/
module

public import Idealize.ShloMosaic.PureOps.Ideal
public import Idealize.ShloMosaic.Lib.Pointwise

@[expose] public section

noncomputable section

namespace Cert.Rnn

open Idealize.ShloMosaic

/-- A batch of 16 rows of 512 numbers: one time step's input, or the hidden state. -/
abbrev Rows := Fin 16 → Fin 512 → EReal

/-- One step: `next x h = tanh (x · Wiᵀ + h · Whᵀ + b)`, entry by entry. -/
def next (Wi Wh : Fin 512 → Fin 512 → EReal) (b : Fin 512 → EReal) (x h : Rows) : Rows := fun r j =>
  Ideal.tanh ((∑ k, x r k * Wi j k) + (∑ k, h r k * Wh j k) + b j)

/-- The hidden state after `t` steps from `h` over the inputs `x 0, x 1, …`. -/
def stateAt (Wi Wh : Fin 512 → Fin 512 → EReal) (b : Fin 512 → EReal) (x : ℕ → Rows) (h : Rows) : ℕ → Rows
  | 0 => h
  | t + 1 => next Wi Wh b (x t) (stateAt Wi Wh b x h t)

variable (Wi Wh : Fin 512 → Fin 512 → EReal) (b : Fin 512 → EReal)

/-- The state after `n` steps depends only on the first `n` inputs. -/
theorem stateAt_congr {x y : ℕ → Rows} (h : Rows) : ∀ n : ℕ, (∀ t < n, x t = y t) → stateAt Wi Wh b x h n = stateAt Wi Wh b y h n
  | 0, _ => rfl
  | n + 1, hxy => by
    rw [stateAt, stateAt, stateAt_congr h n fun t ht => hxy t (Nat.lt_succ_of_lt ht), hxy n n.lt_succ_self]

/-- The state after `a + n` steps is the state after `n` steps from the state after `a`, over the inputs from `x a` on. -/
theorem stateAt_add (x : ℕ → Rows) (h : Rows) (a : ℕ) : ∀ n : ℕ,
    stateAt Wi Wh b x h (a + n) = stateAt Wi Wh b (fun t => x (a + t)) (stateAt Wi Wh b x h a) n
  | 0 => rfl
  | n + 1 => by
    rw [← Nat.add_assoc, stateAt, stateAt, stateAt_add x h a n]

/-- The step with the bias added to the input's product first: the order in which the kernel adds. -/
theorem next_eq (x h : Rows) (r : Fin 16) (j : Fin 512) :
    Ideal.tanh ((∑ k, h r k * Wh j k) + ((∑ k, x r k * Wi j k) + b j)) = next Wi Wh b x h r j := by
  unfold next
  congr 1
  rw [← add_assoc, add_comm (∑ k, h r k * Wh j k)]

/-! ## The results, of the arguments -/

/-- The input sequence `X` of shape 16 × 512 × 512 (batch, time, feature), read as the rows of each time step. -/
def steps (X : (⟨3, ![16, 512, 512]⟩ : Shape).Idx → EReal) : ℕ → Rows := fun t r k =>
  X (ix3 r ⟨t % 512, Nat.mod_lt t (by decide)⟩ k)

/-- The state after `t` steps from zero, of the arguments: the inputs, the two weight matrices and the bias. -/
def after (X : (⟨3, ![16, 512, 512]⟩ : Shape).Idx → EReal) (wi wh : (⟨2, ![512, 512]⟩ : Shape).Idx → EReal)
    (b : (⟨1, ![512]⟩ : Shape).Idx → EReal) (t : ℕ) : Rows :=
  stateAt (fun j k => wi (ix2 j k)) (fun j k => wh (ix2 j k)) (fun j => b (ix1 j)) (steps X) (fun _ _ => 0) t

/-- The first result: at time `t` the state after step `t`. -/
def outputs (X : (⟨3, ![16, 512, 512]⟩ : Shape).Idx → EReal) (wi wh : (⟨2, ![512, 512]⟩ : Shape).Idx → EReal)
    (b : (⟨1, ![512]⟩ : Shape).Idx → EReal) : (⟨3, ![16, 512, 512]⟩ : Shape).Idx → EReal := fun y =>
  after X wi wh b ((y 1).val + 1) (y 0) (y 2)

/-- The second result: the state after all 512 steps. -/
def last (X : (⟨3, ![16, 512, 512]⟩ : Shape).Idx → EReal) (wi wh : (⟨2, ![512, 512]⟩ : Shape).Idx → EReal)
    (b : (⟨1, ![512]⟩ : Shape).Idx → EReal) : (⟨2, ![16, 512]⟩ : Shape).Idx → EReal := fun y =>
  after X wi wh b 512 (y 0) (y 1)

end Cert.Rnn

end
-- ==== Proof.Chunk.lean ====
/-
  One grid point of the kernel. The body projects its 64 time steps' inputs into a scratch, then takes 64 steps of the
  recurrence, storing each step's hidden state into its own 512 columns of the output block and the last one into the
  scratch it carries to the next point. Here the stores the body makes are written as a recursion on the number of steps
  (`stores`, over the hidden states `hid`), and read as values: `hid` is the recurrence `Cert.Rnn.stateAt` (`hid_apply`),
  the output block holds it column block by column block (`out_A`, `out_B`), and the carried scratch holds the state
  after 64 steps (`sout_A`, `sout_B`).
-/
module

public import proofs.«01_k».proof.Proof.Gen.KernelIdeal.Frame
public import proofs.«01_k».proof.Proof.Recurrence
public import Idealize.ShloMosaic.Lib.Pointwise
public import Idealize.ShloMosaic.Lib.Pipeline.Value

@[expose] public section

noncomputable section

namespace Cert.KernelIdeal.Chunk

open Idealize.ShloMosaic Idealize.SL.Sem Cert.KernelIdeal Cert.KernelIdeal.Gen Cert.Rnn

section Shape

variable {F : FTy → Type} [FloatOps F]

/-- One step on blocks: `tanh (h · Wᵀ + u)`, with `u` the step's slab of the projected input. -/
def cell (W : Vec F S512x512 .f32) (u : Vec F S16x1x512 .f32) (h : FVec F S16x512 .f32) : FVec F S16x512 .f32 :=
  tanh (addf (matmul dot_S16x512_S512x512_S16x512_1_1_0_0_n_n none h W (constant S16x512 .f32 0x00000000#32))
    (shapeCast S16x512 u shapeCasts_S16x1x512_S16x512))

/-- The hidden state after `n` steps of a point. -/
def hid (W : Vec F S512x512 .f32) (u : Fin 64 → Vec F S16x1x512 .f32) (h : FVec F S16x512 .f32) :
    (n : ℕ) → n ≤ 64 → FVec F S16x512 .f32
  | 0, _ => h
  | n + 1, hn => cell W (u ⟨n, hn⟩) (hid W u h n (Nat.le_of_succ_le hn))

/-- Slab `i` lies in the projected input. -/
theorem slab_inb (i : Fin 64) : ∀ a, (![0, i.val, 0] : Fin 3 → ℕ) a + S16x1x512.size a ≤ S16x64x512.size a := by
  have := i.isLt
  intro a
  fin_cases a
  · exact Nat.le_refl 16
  · change i.val + 1 ≤ 64
    omega
  · exact Nat.le_refl 512

/-- The 512 columns of step `i` lie in the output block. -/
theorem cols_inb (i : Fin 64) : ∀ a, (![0, 512 * i.val] : Fin 2 → ℕ) a + S16x512.size a ≤ S16x32768.size a := by
  have := i.isLt
  intro a
  fin_cases a
  · exact Nat.le_refl 16
  · change 512 * i.val + 512 ≤ 32768
    omega

/-- The first `n` steps' stores into the output block, the last first: each step's state into its own 512 columns. -/
def stores (W : Vec F S512x512 .f32) (u : Fin 64 → Vec F S16x1x512 .f32) (h : FVec F S16x512 .f32) :
    (n : ℕ) → n ≤ 64 → List (View.Piece (Elt F) S16x32768 .f32)
  | 0, _ => []
  | n + 1, hn => ⟨Rect.unit (s := S16x32768) ![0, 512 * n] S16x512.size (cols_inb ⟨n, hn⟩), hid W u h (n + 1) hn⟩ ::
      stores W u h n (Nat.le_of_succ_le hn)

/-- Slab `i` of the projected input `X`, as loaded back from the scratch. -/
def slab (v : View sig .tc .vmem S16x64x512 .f32) (X : FVec F S16x64x512 .f32) (i : Fin 64) : Vec F S16x1x512 .f32 :=
  v.readCov [⟨Rect.unit (s := S16x64x512) ![0, 0, 0] S16x64x512.size inb_S16x64x512_S16x64x512_0_0_0, X⟩]
    (Rect.unit (s := S16x64x512) ![0, i.val, 0] S16x1x512.size (slab_inb i)).toLoadRect

/-- Two zero offsets are the constant zero. -/
theorem zero2 : (![0, 0] : Fin 2 → ℕ) = fun _ => 0 := funext fun a => by fin_cases a <;> rfl

/-- Three zero offsets are the constant zero. -/
theorem zero3 : (![0, 0, 0] : Fin 3 → ℕ) = fun _ => 0 := funext fun a => by fin_cases a <;> rfl

/-- Loading slab `i` reads the projected input at step `i`. -/
theorem slab_apply (v : View sig .tc .vmem S16x64x512 .f32) (X : FVec F S16x64x512 .f32) (i : Fin 64) (r : Fin 16) (j : Fin 512) :
    slab v X i (ix3 r 0 j) = X (ix3 r i j) := by
  unfold slab
  rw [View.readCov_eq_canon', View.canon_unit_zero zero3]
  refine congrArg X (funext fun a => Fin.ext ?_)
  fin_cases a
  · exact (Nat.zero_add _).trans (Nat.one_mul _)
  · exact Nat.add_zero _
  · exact (Nat.zero_add _).trans (Nat.one_mul _)

section Run

variable (c : Dev nD) (i : grid0.Coords) (a1 : Memref sig .tc .vmem S16x64x512 .f32) (h1 : a1.IsWhole)
  (a2 : Memref sig .tc .vmem S512x512 .f32) (h2 : a2.IsWhole) (a3 : Memref sig .tc .vmem S512x512 .f32) (h3 : a3.IsWhole)
  (a4 : Memref sig .tc .vmem S1x512 .f32) (h4 : a4.IsWhole) (a5 : Memref sig .tc .vmem S16x32768 .f32) (h5 : a5.IsWhole)
  (a6 : Memref sig .tc .vmem S16x512 .f32) (h6 : a6.IsWhole) (a7 : Memref sig .tc .vmem S16x64x512 .f32) (h7 : a7.IsWhole)
  (x : Vec F S16x64x512 .f32) (wi wh : Vec F S512x512 .f32) (b : Vec F S1x512 .f32) (h : Vec F S16x512 .f32)

/-- The projected input the body stores into its scratch, over its loads of the input block, the weights and the bias. -/
def proj : FVec F S16x64x512 .f32 :=
  k0_pay4
    (View.readAt (Elt F) a1.view (Rect.unit ![0, 0, 0] S16x64x512.size inb_S16x64x512_S16x64x512_0_0_0).toLoadRect (h1.unread x))
    (View.readAt (Elt F) a2.view (Rect.unit ![0, 0] S512x512.size inb_S512x512_S512x512_0_0).toLoadRect (h2.unread wi))
    (View.readAt (Elt F) a4.view (Rect.unit ![0, 0] S1x512.size inb_S1x512_S1x512_0_0).toLoadRect (h4.unread b))

/-- The body's load of the recurrent weights. -/
def recur : Vec F S512x512 .f32 :=
  View.readAt (Elt F) a3.view (Rect.unit ![0, 0] S512x512.size inb_S512x512_S512x512_0_0).toLoadRect (h3.unread wh)

/-- The body's load of the carried state, past the first point. -/
def carried : Vec F S16x512 .f32 :=
  View.readAt (Elt F) a6.view (Rect.unit ![0, 0] S16x512.size inb_S16x512_S16x512_0_0).toLoadRect (h6.unread h)

/-- The body's load of the carried state at the first point: the zero block it has just stored there. -/
def cleared : Vec F S16x512 .f32 :=
  a6.view.readCov [⟨Rect.unit (s := S16x512) ![0, 0] S16x512.size inb_S16x512_S16x512_0_0, k0_pay3 (F := F)⟩]
    (Rect.unit (s := S16x512) ![0, 0] S16x512.size inb_S16x512_S16x512_0_0).toLoadRect

/-- The loads behind `proj` read whole blocks, so it is the projection of the blocks themselves. -/
theorem proj_eq : proj a1 h1 a2 h2 a4 h4 x wi b = k0_pay4 x wi b := by
  unfold proj
  simp only [View.readAt_eq_ld, h1.read_unread, h2.read_unread, h4.read_unread, View.ld_unit_zero (S := S16x64x512) zero3,
    View.ld_unit_zero (S := S512x512) zero2, View.ld_unit_zero (S := S1x512) zero2]

/-- The load of the recurrent weights reads the whole block. -/
theorem recur_eq : recur a3 h3 wh = wh := by
  unfold recur
  simp only [View.readAt_eq_ld, h3.read_unread, View.ld_unit_zero (S := S512x512) zero2]

/-- The load of the carried state reads the whole scratch. -/
theorem carried_eq : carried a6 h6 h = h := by
  unfold carried
  simp only [View.readAt_eq_ld, h6.read_unread, View.ld_unit_zero (S := S16x512) zero2]

/-- The load after the first point's clearing reads the block stored. -/
theorem cleared_eq : cleared a6 = k0_pay3 (F := F) := by
  unfold cleared
  rw [View.readCov_unit_zero (S := S16x512) _ zero2]

set_option maxRecDepth 65536 in
/-- Past the first point the body's stores into the output block are the recursion's 64, from the carried state. -/
theorem stores_B (hc : ¬cond0_0 i) :
    (kernelRun0_B c i a1 h1 a2 h2 a3 h3 a4 h4 a5 h5 a6 h6 a7 h7 hc x wi wh b h).1
      = stores (recur a3 h3 wh) (slab a7.view (proj a1 h1 a2 h2 a4 h4 x wi b)) (carried a6 h6 h) 64 le_rfl := rfl

set_option maxRecDepth 65536 in
/-- At the first point they are the recursion's 64 from the zero block. -/
theorem stores_A (hc : cond0_0 i) :
    (kernelRun0_A c i a1 h1 a2 h2 a3 h3 a4 h4 a5 h5 a6 h6 a7 h7 hc x wi wh b).1
      = stores (recur a3 h3 wh) (slab a7.view (proj a1 h1 a2 h2 a4 h4 x wi b)) (cleared a6) 64 le_rfl := rfl

set_option maxRecDepth 65536 in
/-- Past the first point the one store into the carried scratch is the state after 64 steps. -/
theorem state_B (hc : ¬cond0_0 i) :
    (kernelRun0_B c i a1 h1 a2 h2 a3 h3 a4 h4 a5 h5 a6 h6 a7 h7 hc x wi wh b h).2.1
      = [⟨Rect.unit (s := S16x512) ![0, 0] S16x512.size inb_S16x512_S16x512_0_0,
          shapeCast S16x512 (hid (recur a3 h3 wh) (slab a7.view (proj a1 h1 a2 h2 a4 h4 x wi b)) (carried a6 h6 h) 64 le_rfl)
            shapeCasts_S16x512_S16x512⟩] := rfl

set_option maxRecDepth 65536 in
/-- At the first point the scratch takes the zero block and then the state after 64 steps. -/
theorem state_A (hc : cond0_0 i) :
    (kernelRun0_A c i a1 h1 a2 h2 a3 h3 a4 h4 a5 h5 a6 h6 a7 h7 hc x wi wh b).2.1
      = [⟨Rect.unit (s := S16x512) ![0, 0] S16x512.size inb_S16x512_S16x512_0_0,
          shapeCast S16x512 (hid (recur a3 h3 wh) (slab a7.view (proj a1 h1 a2 h2 a4 h4 x wi b)) (cleared a6) 64 le_rfl)
            shapeCasts_S16x512_S16x512⟩,
         ⟨Rect.unit (s := S16x512) ![0, 0] S16x512.size inb_S16x512_S16x512_0_0, k0_pay3⟩] := rfl

end Run

end Shape

/-! ## The values -/

/-- A 512 × 512 block as a function of its two coordinates. -/
abbrev mat (w : Vec Ideal S512x512 .f32) : Fin 512 → Fin 512 → EReal := fun j k => w (ix2 j k)

/-- The bias row as a function of its column. -/
abbrev row (b : Vec Ideal S1x512 .f32) : Fin 512 → EReal := fun j => b (ix2 0 j)

/-- A 16 × 512 block as rows. -/
abbrev rows (h : Vec Ideal S16x512 .f32) : Rows := fun r j => h (ix2 r j)

/-- The inputs of a point's 64 steps, out of its input block. -/
abbrev inputs (x : Vec Ideal S16x64x512 .f32) : ℕ → Rows := fun t r k => x (ix3 r ⟨t % 64, Nat.mod_lt t (by decide)⟩ k)

/-- An entry of one step on blocks. -/
theorem cell_apply (W : Vec Ideal S512x512 .f32) (u : Vec Ideal S16x1x512 .f32) (h : FVec Ideal S16x512 .f32) (r : Fin 16) (j : Fin 512) :
    cell W u h (ix2 r j) = Ideal.tanh ((∑ k, h (ix2 r k) * W (ix2 j k)) + u (ix3 r 0 j)) := by
  pointwise [cell]

/-- An entry of the projected input: the input row against the weights' row, plus the bias. -/
theorem pay4_apply (x : Vec Ideal S16x64x512 .f32) (W : Vec Ideal S512x512 .f32) (b : Vec Ideal S1x512 .f32) (r : Fin 16) (i : Fin 64)
    (j : Fin 512) : k0_pay4 x W b (ix3 r i j) = (∑ k, x (ix3 r i k) * W (ix2 j k)) + b (ix2 0 j) := by
  pointwise [k0_pay4]

/-- The block stored at the first point is zero. -/
theorem pay3_apply (r : Fin 16) (j : Fin 512) : k0_pay3 (F := Ideal) (ix2 r j) = 0 := by
  pointwise [k0_pay3]

/-- The states on blocks are the recurrence, whatever view the projected input was loaded back through. -/
theorem hid_apply (v : View sig .tc .vmem S16x64x512 .f32) (x : Vec Ideal S16x64x512 .f32) (wi wh : Vec Ideal S512x512 .f32)
    (b : Vec Ideal S1x512 .f32) (h : Vec Ideal S16x512 .f32) : ∀ (n : ℕ) (hn : n ≤ 64) (r : Fin 16) (j : Fin 512),
    hid wh (slab v (k0_pay4 x wi b)) h n hn (ix2 r j) = stateAt (mat wi) (mat wh) (row b) (inputs x) (rows h) n r j
  | 0, _, _, _ => rfl
  | n + 1, hn, r, j => by
    rw [hid, cell_apply, slab_apply, pay4_apply, stateAt, ← next_eq]
    simp only [hid_apply v x wi wh b h n, inputs, Nat.mod_eq_of_lt hn]

/-- What the output block holds at row `r`, column `q`: column `q % 512` of the state after step `q / 512`. -/
def block (Wi Wh : Fin 512 → Fin 512 → EReal) (b : Fin 512 → EReal) (x : ℕ → Rows) (h : Rows) : Vec Ideal S16x32768 .f32 :=
  fun y => stateAt Wi Wh b x h ((y 1).val / 512 + 1) (y 0) ⟨(y 1).val % 512, Nat.mod_lt _ (by decide)⟩

/-- Every store into the output block stores `block`'s part there. -/
theorem stores_block (v : View sig .tc .vmem S16x64x512 .f32) (x : Vec Ideal S16x64x512 .f32) (wi wh : Vec Ideal S512x512 .f32)
    (b : Vec Ideal S1x512 .f32) (h : Vec Ideal S16x512 .f32) : ∀ (n : ℕ) (hn : n ≤ 64),
    ∀ p ∈ stores wh (slab v (k0_pay4 x wi b)) h n hn, ∀ z : p.1.shape.Idx,
      p.2 z = block (mat wi) (mat wh) (row b) (inputs x) (rows h) (p.1.emb z)
  | 0, _, p, hp, _ => by cases hp
  | n + 1, hn, p, hp, z => by
    rcases List.mem_cons.mp hp with rfl | hp
    · obtain ⟨r, j, rfl⟩ : ∃ (r : Fin 16) (j : Fin 512), z = ix2 r j := ⟨z 0, z 1, eq_ix2 z⟩
      refine (hid_apply v x wi wh b h (n + 1) hn r j).trans ?_
      have hj := j.isLt
      have e0 : (Rect.unit (s := S16x32768) ![0, 512 * n] S16x512.size (cols_inb ⟨n, hn⟩)).emb (ix2 r j) 0 = r :=
        Fin.ext ((Nat.zero_add _).trans (Nat.one_mul _))
      have e1 : ((Rect.unit (s := S16x32768) ![0, 512 * n] S16x512.size (cols_inb ⟨n, hn⟩)).emb (ix2 r j) 1).val = 512 * n + j.val :=
        congrArg (512 * n + ·) (Nat.one_mul _)
      unfold block
      rw [e0]
      simp only [e1, show (512 * n + j.val) / 512 = n by omega, show (512 * n + j.val) % 512 = j.val by omega]
    · exact stores_block v x wi wh b h n _ p hp z

section Run

variable (c : Dev nD) (i : grid0.Coords) (a1 : Memref sig .tc .vmem S16x64x512 .f32) (h1 : a1.IsWhole)
  (a2 : Memref sig .tc .vmem S512x512 .f32) (h2 : a2.IsWhole) (a3 : Memref sig .tc .vmem S512x512 .f32) (h3 : a3.IsWhole)
  (a4 : Memref sig .tc .vmem S1x512 .f32) (h4 : a4.IsWhole) (a5 : Memref sig .tc .vmem S16x32768 .f32) (h5 : a5.IsWhole)
  (a6 : Memref sig .tc .vmem S16x512 .f32) (h6 : a6.IsWhole) (a7 : Memref sig .tc .vmem S16x64x512 .f32) (h7 : a7.IsWhole)
  (x : Vec Ideal S16x64x512 .f32) (wi wh : Vec Ideal S512x512 .f32) (b : Vec Ideal S1x512 .f32) (h : Vec Ideal S16x512 .f32)

/-- Past the first point the output block holds the states from the carried one. -/
theorem out_B (hc : ¬cond0_0 i) :
    out0_B_4 c i a1 h1 a2 h2 a3 h3 a4 h4 a5 h5 a6 h6 a7 h7 hc x wi wh b h
      = block (mat wi) (mat wh) (row b) (inputs x) (rows h) := by
  have cover := cover0_B_4 c i a1 h1 a2 h2 a3 h3 a4 h4 a5 h5 a6 h6 a7 h7 hc x wi wh b h
  unfold out0_B_4
  rw [View.read_writes_eq_canon _ _ _ cover]
  rw [stores_B, recur_eq, proj_eq, carried_eq] at cover ⊢
  exact funext fun y => View.canon_apply_of_pieces _ _ (stores_block a7.view x wi wh b h 64 le_rfl) y (cover y)

/-- At the first point it holds the states from zero. -/
theorem out_A (hc : cond0_0 i) :
    out0_A_4 c i a1 h1 a2 h2 a3 h3 a4 h4 a5 h5 a6 h6 a7 h7 hc x wi wh b
      = block (mat wi) (mat wh) (row b) (inputs x) (fun _ _ => 0) := by
  have cover := cover0_A_4 c i a1 h1 a2 h2 a3 h3 a4 h4 a5 h5 a6 h6 a7 h7 hc x wi wh b
  unfold out0_A_4
  rw [View.read_writes_eq_canon _ _ _ cover]
  rw [stores_A, recur_eq, proj_eq, cleared_eq] at cover ⊢
  rw [← show rows (k0_pay3 (F := Ideal)) = fun _ _ => 0 from funext fun r => funext fun j => pay3_apply r j]
  exact funext fun y => View.canon_apply_of_pieces _ _ (stores_block a7.view x wi wh b _ 64 le_rfl) y (cover y)

/-- Past the first point the carried scratch ends at the state 64 steps on. -/
theorem sout_B (hc : ¬cond0_0 i) :
    rows (sout0_B_0 c i a1 h1 a2 h2 a3 h3 a4 h4 a5 h5 a6 h6 a7 h7 hc x wi wh b h)
      = stateAt (mat wi) (mat wh) (row b) (inputs x) (rows h) 64 := by
  unfold sout0_B_0
  rw [View.read_writes_eq_canon _ _ _ (scover0_B_0 c i a1 h1 a2 h2 a3 h3 a4 h4 a5 h5 a6 h6 a7 h7 hc x wi wh b h),
    state_B, recur_eq, proj_eq, carried_eq, View.canon_cons_unit_zero (S := S16x512) zero2, shapeCast_self]
  exact funext fun r => funext fun j => hid_apply a7.view x wi wh b h 64 le_rfl r j

/-- At the first point it ends at the state 64 steps on from zero. -/
theorem sout_A (hc : cond0_0 i) :
    rows (sout0_A_0 c i a1 h1 a2 h2 a3 h3 a4 h4 a5 h5 a6 h6 a7 h7 hc x wi wh b)
      = stateAt (mat wi) (mat wh) (row b) (inputs x) (fun _ _ => 0) 64 := by
  unfold sout0_A_0
  rw [View.read_writes_eq_canon _ _ _ (scover0_A_0 c i a1 h1 a2 h2 a3 h3 a4 h4 a5 h5 a6 h6 a7 h7 hc x wi wh b),
    state_A, recur_eq, proj_eq, cleared_eq, View.canon_cons_unit_zero (S := S16x512) zero2, shapeCast_self,
    ← show rows (k0_pay3 (F := Ideal)) = fun _ _ => 0 from funext fun r => funext fun j => pay3_apply r j]
  exact funext fun r => funext fun j => hid_apply a7.view x wi wh b _ 64 le_rfl r j

end Run

end Cert.KernelIdeal.Chunk

end
-- ==== Proof.KernelValue.lean ====
/-
  The whole kernel. Its eight grid points each take 64 steps from the state the point before left, so after point `n` the
  carried scratch holds the state after `64 (n + 1)` steps and the output block of point `n` the 64 states on the way
  (`outs_eq`, by induction on the point). The blocks tile the region's array (`array_eq`), and the operations after the
  region read the two results out of it (`run`).
-/
module

public import proofs.«01_k».proof.Proof.Chunk
public import Idealize.ShloMosaic.Lib.StableHlo.Run

@[expose] public section

noncomputable section

namespace Cert.KernelIdeal.Value

open Idealize.ShloMosaic Idealize.ShloMosaic.TcCoe Idealize.SL.Sem Cert.KernelIdeal Cert.KernelIdeal.Gen Cert.KernelIdeal.Chunk
open Cert.Rnn hiding after
open Idealize.ShloMosaic.Pipeline (Dat)

variable (m : (ℓ : Loc nD τ sig) → Buf (Elt Ideal) ℓ) (ρ : Dev nD → PrngReg) (c : Dev nD)

/-- The state after `t` steps, of the kernel's arguments on core `c`. -/
abbrev state (t : ℕ) : Rows :=
  Cert.Rnn.after (m ((c : Thread nD τ).loc main_arg0)) (m ((c : Thread nD τ).loc main_arg1)) (m ((c : Thread nD τ).loc main_arg2))
    (m ((c : Thread nD τ).loc main_arg3)) t

/-! ## The windows' blocks are the arguments -/

/-- The bias reaches the region as one row. -/
theorem bias_eq (j : Fin 512) : V m c main_v0 (ix2 0 j) = m ((c : Thread nD τ).loc main_arg3) (ix1 j) := by
  have h : V m c main_v0 = shapeCast S1x512 (m ((c : Thread nD τ).loc main_arg3)) shapeCasts_S512_S1x512 := by
    simp only [V, V0, List.flatten_cons, List.flatten_nil, List.append_nil]
    after_results
    rfl
  rw [h]
  pointwise

/-- The input block of point `t` is time steps `64 t, …, 64 t + 63` of the input. -/
theorem input_eq (t : Fin cfg0.N) (r : Fin 16) (i : Fin 64) (k : Fin 512) (h : 64 * t.val + i.val < 512) :
    (iblk m c 0 t : Vec Ideal S16x64x512 .f32) (ix3 r i k) = m ((c : Thread nD τ).loc main_arg0) (ix3 r ⟨64 * t.val + i.val, h⟩ k) := by
  have hi : win0_0.index t 0 = 0 ∧ win0_0.index t 1 = t.val ∧ win0_0.index t 2 = 0 := by
    rcases fin_N0 t with rfl | rfl | rfl | rfl | rfl | rfl | rfl | rfl <;> decide
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 16 + 1 * r.val = r.val; rw [hi.1]; omega
  | ⟨1, _⟩ => show win0_0.index t 1 * 64 + 1 * i.val = 64 * t.val + i.val; rw [hi.2.1]; omega
  | ⟨2, _⟩ => show win0_0.index t 2 * 512 + 1 * k.val = k.val; rw [hi.2.2]; omega

/-- The input weights' block is the whole matrix. -/
theorem wi_eq (t : Fin cfg0.N) (j k : Fin 512) :
    (iblk m c 1 t : Vec Ideal S512x512 .f32) (ix2 j k) = m ((c : Thread nD τ).loc main_arg1) (ix2 j k) := by
  have hi : win0_1.index t 0 = 0 ∧ win0_1.index t 1 = 0 := ⟨rfl, rfl⟩
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 512 + 1 * j.val = j.val; rw [hi.1]; omega
  | ⟨1, _⟩ => show win0_1.index t 1 * 512 + 1 * k.val = k.val; rw [hi.2]; omega

/-- The recurrent weights' block is the whole matrix. -/
theorem wh_eq (t : Fin cfg0.N) (j k : Fin 512) :
    (iblk m c 2 t : Vec Ideal S512x512 .f32) (ix2 j k) = m ((c : Thread nD τ).loc main_arg2) (ix2 j k) := by
  have hi : win0_2.index t 0 = 0 ∧ win0_2.index t 1 = 0 := ⟨rfl, rfl⟩
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 512 + 1 * j.val = j.val; rw [hi.1]; omega
  | ⟨1, _⟩ => show win0_2.index t 1 * 512 + 1 * k.val = k.val; rw [hi.2]; omega

/-- The bias block is the whole row. -/
theorem b_eq (t : Fin cfg0.N) (j : Fin 512) :
    (iblk m c 3 t : Vec Ideal S1x512 .f32) (ix2 0 j) = m ((c : Thread nD τ).loc main_arg3) (ix1 j) := by
  have hi : win0_3.index t 0 = 0 ∧ win0_3.index t 1 = 0 := ⟨rfl, rfl⟩
  rw [← bias_eq m c j]
  unfold iblk
  rw [View.read_apply]
  refine congrArg (V m c main_v0) (funext fun a => Fin.ext ?_)
  match a with
  | ⟨0, _⟩ => show win0_3.index t 0 * 1 + 1 * 0 = 0; rw [hi.1]
  | ⟨1, _⟩ => show win0_3.index t 1 * 512 + 1 * j.val = j.val; rw [hi.2]; omega

/-- The 64 steps of point `t` from the state after `64 t` steps are the recurrence's next 64. -/
theorem point_state (t : Fin cfg0.N) (n : ℕ) (hn : n ≤ 64) :
    stateAt (mat (iblk m c 1 t)) (mat (iblk m c 2 t)) (row (iblk m c 3 t)) (inputs (iblk m c 0 t)) (state m c (64 * t.val)) n
      = state m c (64 * t.val + n) := by
  have ht : t.val < 8 := Nat.lt_of_lt_of_eq t.isLt N_0
  have e1 : mat (iblk m c 1 t) = fun j k => m ((c : Thread nD τ).loc main_arg1) (ix2 j k) := funext fun j => funext (wi_eq m c t j)
  have e2 : mat (iblk m c 2 t) = fun j k => m ((c : Thread nD τ).loc main_arg2) (ix2 j k) := funext fun j => funext (wh_eq m c t j)
  have e3 : row (iblk m c 3 t) = fun j => m ((c : Thread nD τ).loc main_arg3) (ix1 j) := funext (b_eq m c t)
  rw [e1, e2, e3]
  refine Eq.trans ?_ (stateAt_add _ _ _ _ _ (64 * t.val) n).symm
  refine stateAt_congr _ _ _ _ n fun i hi => funext fun r => funext fun k => ?_
  refine (input_eq m c t r ⟨i % 64, Nat.mod_lt i (by decide)⟩ k (by have := Nat.mod_lt i (show 0 < 64 by decide); show 64 * t.val + i % 64 < 512; omega)).trans ?_
  unfold steps
  refine congrArg (fun q : Fin 512 => m ((c : Thread nD τ).loc main_arg0) (ix3 r q k)) (Fin.ext ?_)
  show 64 * t.val + i % 64 = (64 * t.val + i) % 512
  omega

/-! ## The points -/

/-- The output block of point `n`: columns `512 i, …, 512 i + 511` hold the state after `64 n + i + 1` steps. -/
def pointOut (n : ℕ) : Vec Ideal S16x32768 .f32 := fun y =>
  state m c (64 * n + ((y 1).val / 512 + 1)) (y 0) ⟨(y 1).val % 512, Nat.mod_lt _ (by decide)⟩

/-- A point that starts from the state after `64 t` steps leaves `pointOut` in its output block. -/
theorem block_eq (t : Fin cfg0.N) :
    block (mat (iblk m c 1 t)) (mat (iblk m c 2 t)) (row (iblk m c 3 t)) (inputs (iblk m c 0 t)) (state m c (64 * t.val))
      = pointOut m c t.val := by
  funext y
  have hy : (y 1).val < 32768 := (y 1).isLt
  unfold block pointOut
  rw [point_state m c t _ (by omega)]

/-- What the output block and the carried scratch hold after each point. -/
theorem outs_eq : ∀ (n : ℕ) (hn : n < cfg0.N),
    (outsAt0 m c n hn).1 = pointOut m c n ∧ rows (outsAt0 m c n hn).2 = state m c (64 * n + 64)
  | 0, hn => by
    have hz : (fun _ _ => 0 : Rows) = state m c (64 * (⟨0, hn⟩ : Fin cfg0.N).val) := rfl
    have hA := outsAt0_A m c ⟨0, hn⟩ rfl
    refine ⟨(congrArg Prod.fst hA).trans ?_, (congrArg (fun p => rows p.2) hA).trans ?_⟩
    · dsimp only
      rw [out_A, hz]
      exact block_eq m c ⟨0, hn⟩
    · dsimp only
      rw [sout_A, hz]
      exact point_state m c ⟨0, hn⟩ 64 le_rfl
  | n + 1, hn => by
    have h8 : n + 1 < 8 := Nat.lt_of_lt_of_eq hn N_0
    have hB : ¬(⟨n + 1, hn⟩ : Fin cfg0.N).val % 8 = 0 := by dsimp only; omega
    have ih : rows (outsAt0 m c n (Nat.lt_of_succ_lt hn)).2 = state m c (64 * (⟨n + 1, hn⟩ : Fin cfg0.N).val) :=
      (outs_eq n (Nat.lt_of_succ_lt hn)).2
    have hb := outsAt0_B m c ⟨n + 1, hn⟩ hB
    refine ⟨(congrArg Prod.fst hb).trans ?_, (congrArg (fun p => rows p.2) hb).trans ?_⟩
    · dsimp only
      rw [out_B]
      show block _ _ _ _ (rows (outsAt0 m c n _).2) = _
      rw [ih]
      exact block_eq m c ⟨n + 1, hn⟩
    · dsimp only
      rw [sout_B]
      show stateAt _ _ _ _ (rows (outsAt0 m c n _).2) 64 = _
      rw [ih]
      exact point_state m c ⟨n + 1, hn⟩ 64 le_rfl

/-! ## The region's array -/

/-- The region's array: columns `512 t, …, 512 t + 511` hold the state after `t + 1` steps. -/
def array : Buf (Elt Ideal) ((c : Thread nD τ).loc main_v1) := fun (y : S16x262144.Idx) =>
  state m c ((y 1).val / 512 + 1) (y 0) ⟨(y 1).val % 512, Nat.mod_lt _ (by decide)⟩

/-- Point `t`'s output block sits at columns `32768 t, …` of the array. -/
theorem index_eq (t : Fin cfg0.N) : win0_4.index t 0 = 0 ∧ win0_4.index t 1 = t.val := by
  rcases fin_N0 t with rfl | rfl | rfl | rfl | rfl | rfl | rfl | rfl <;> decide

/-- What point `t` writes back is its block of the array. -/
theorem flushed_eq (t : Fin cfg0.N) : (dats m 0 c).flushed 4 t = ((cfg0.win 4).blk t).view.read (Elt Ideal) (array m c) := by
  show (cfg0.win 4).cut (grid0.coords t) ((dats m 0 c).after 4 t) = _
  rw [after0_4, (outs_eq m c t.val t.isLt).1]
  funext y
  rw [View.read_apply]
  have hi := index_eq t
  have hy : (y 1).val < 32768 := (y 1).isLt
  have e0 : ((cfg0.win 4).blk t).view.emb y 0 = (y 0 : Fin 16) :=
    Fin.ext (by show win0_4.index t 0 * 16 + 1 * (y 0).val = (y 0).val; rw [hi.1]; omega)
  have e1 : (((cfg0.win 4).blk t).view.emb y 1).val = 32768 * t.val + (y 1).val := by
    show win0_4.index t 1 * 32768 + 1 * (y 1).val = _
    rw [hi.2]; omega
  show pointOut m c t.val y = array m c (((cfg0.win 4).blk t).view.emb y)
  unfold pointOut array
  rw [e0]
  simp only [e1, show (32768 * t.val + (y 1).val) / 512 + 1 = 64 * t.val + ((y 1).val / 512 + 1) by omega,
    show (32768 * t.val + (y 1).val) % 512 = (y 1).val % 512 by omega]

/-- The region's array ends holding every state. -/
theorem array_eq : (dats m 0 c).arrAt 4 cfg0.N = array m c :=
  (dats m 0 c).arrAt_eq_of_cover 4 (array m c) (fun t _ => flushed_eq m c t) fun i => by
    have h0 : (i 0 : ℕ) < 16 := (i 0).isLt
    have h1 : (i 1 : ℕ) < 262144 := (i 1).isLt
    have ht : (i 1 : ℕ) / 32768 < cfg0.N := by rw [show cfg0.N = 8 from N_0]; omega
    have hi := index_eq ⟨(i 1 : ℕ) / 32768, ht⟩
    refine ⟨⟨(i 1 : ℕ) / 32768, ht⟩, flush0_4 _, ?_⟩
    show i ∈ ((View.whole main_v1).slice (win0_4.rect ⟨(i 1 : ℕ) / 32768, ht⟩)).set
    rw [View.set_slice_whole, Rect.mem_set_unit]
    intro a
    match a with
    | ⟨0, _⟩ =>
      show win0_4.index ⟨(i 1 : ℕ) / 32768, ht⟩ 0 * 16 ≤ (i 0 : ℕ) ∧ (i 0 : ℕ) < win0_4.index ⟨(i 1 : ℕ) / 32768, ht⟩ 0 * 16 + 16
      rw [hi.1]; omega
    | ⟨1, _⟩ =>
      show win0_4.index ⟨(i 1 : ℕ) / 32768, ht⟩ 1 * 32768 ≤ (i 1 : ℕ)
        ∧ (i 1 : ℕ) < win0_4.index ⟨(i 1 : ℕ) / 32768, ht⟩ 1 * 32768 + 32768
      rw [hi.2]; dsimp only; omega

/-! ## The results -/

/-- Where the operations after the region start, the region's array holds every state. -/
theorem region_eq : Pipeline.withArrays (cfgs 0).spec c (V0 m c) (fun w => (dats m 0 c).arrAt w (cfgs 0).N) (Proc.devRef .tc main_v1)
    = array m c :=
  (Pipeline.withArrays_arr spec0 (by intro a b; revert a b; decide) c (V0 m c) (fun w => (dats m 0 c).arrAt w cfg0.N) 4).trans
    (array_eq m c)

/-- The array reshaped to batch, time and feature is the first result. -/
theorem reshaped_eq : shapeCast S16x512x512 (array m c) shapeCasts_S16x262144_S16x512x512
    = outputs (m ((c : Thread nD τ).loc main_arg0)) (m ((c : Thread nD τ).loc main_arg1)) (m ((c : Thread nD τ).loc main_arg2))
        (m ((c : Thread nD τ).loc main_arg3)) := by
  funext y
  idx_vars y
  pointwise
  have h1 := y1.isLt
  have h2 := y2.isLt
  show state m c ((y1.val * 512 + y2.val) / 512 + 1) y0 ⟨(y1.val * 512 + y2.val) % 512, _⟩ = state m c (y1.val + 1) y0 y2
  simp only [show (y1.val * 512 + y2.val) / 512 = y1.val by omega, show (y1.val * 512 + y2.val) % 512 = y2.val by omega]

/-- The first result: the state after every step. -/
theorem outputs_eq : Pipeline.afterTail₀ cfgs (dats m) 0 (V0 m) [hostOps1] c main_v2
    = outputs (m ((c : Thread nD τ).loc main_arg0)) (m ((c : Thread nD τ).loc main_arg1)) (m ((c : Thread nD τ).loc main_arg2))
        (m ((c : Thread nD τ).loc main_arg3)) := by
  rw [← reshaped_eq]
  unfold Pipeline.afterTail₀
  simp only [List.flatten_cons, List.flatten_nil, List.append_nil]
  after_results
  rw [region_eq]
  rfl

/-- The second result: the state after the last step, the slice of the first at time 511. -/
theorem last_eq : Pipeline.afterTail₀ cfgs (dats m) 0 (V0 m) [hostOps1] c main_v4
    = last (m ((c : Thread nD τ).loc main_arg0)) (m ((c : Thread nD τ).loc main_arg1)) (m ((c : Thread nD τ).loc main_arg2))
        (m ((c : Thread nD τ).loc main_arg3)) := by
  have h : Pipeline.afterTail₀ cfgs (dats m) 0 (V0 m) [hostOps1] c main_v4
      = shapeCast S16x512 (extractStridedSlice S16x1x512 ![0, 511, 0]
          (shapeCast S16x512x512 (array m c) shapeCasts_S16x262144_S16x512x512) slices_S16x512x512_S16x1x512_0_511_0)
          shapeCasts_S16x1x512_S16x512 := by
    unfold Pipeline.afterTail₀
    simp only [List.flatten_cons, List.flatten_nil, List.append_nil]
    after_results
    rw [region_eq]
    rfl
  rw [h, reshaped_eq]
  funext y
  idx_vars y
  pointwise
  rfl

/-- Every execution of the kernel terminates with its two results at `outputs` and `last` of its arguments, and the
    arguments unchanged. -/
theorem run : θ_run defs (onTc (τ := τ) (main (F := Ideal))) ⟨m, fun _ => 0, ρ⟩ fun r => ∀ c : Dev nD,
    r.2.mem ((c : Thread nD τ).loc main_v2)
        = outputs (m ((c : Thread nD τ).loc main_arg0)) (m ((c : Thread nD τ).loc main_arg1)) (m ((c : Thread nD τ).loc main_arg2))
            (m ((c : Thread nD τ).loc main_arg3))
    ∧ r.2.mem ((c : Thread nD τ).loc main_v4)
        = last (m ((c : Thread nD τ).loc main_arg0)) (m ((c : Thread nD τ).loc main_arg1)) (m ((c : Thread nD τ).loc main_arg2))
            (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c =>
    ⟨((h.1 c).2 main_v2 (Pipeline.mem_restRefs_of main_v2 (by decide) (by decide))).trans (outputs_eq m c),
      ((h.1 c).2 main_v4 (Pipeline.mem_restRefs_of main_v4 (by decide) (by decide))).trans (last_eq m c), h.2 c⟩)
    (θ_run_and (run_main m ρ) (unchanged m ρ))

end Cert.KernelIdeal.Value

end
-- ==== Proof.ReferenceValue.lean ====
/-
  The reference: a loop of 512 trips. Before trip `t` its counter is `t`, its hidden state is the recurrence's after `t`
  steps and its time rows below `t` are filled in (`Before`, shown for every `t` by `before_trip`, by induction on the trip);
  so after 512 trips its two results are `outputs` and `last` of its arguments (`run`).
-/
module

public import proofs.«01_k».proof.Proof.Recurrence
public import proofs.«01_k».proof.Proof.Gen.ReferenceIdeal.Run
public import Idealize.ShloMosaic.Lib.WordCmp

@[expose] public section

noncomputable section

namespace Cert.ReferenceIdeal.Loop

open Idealize.ShloMosaic Idealize.ShloMosaic.TcCoe Idealize.SL.Sem Cert.ReferenceIdeal Cert.ReferenceIdeal.Gen Cert.ReferenceIdeal.Value
open Idealize.ShloMosaic.StableHlo
open Cert.Rnn hiding after

variable (m : (ℓ : Loc nD τ sig) → Buf (Elt Ideal) ℓ) (ρ : Dev nD → PrngReg) (c : Dev nD)

/-- The state after `t` steps, of the reference's arguments on core `c`. -/
abbrev state (t : ℕ) : Rows :=
  Cert.Rnn.after (m ((c : Thread nD τ).loc main_arg0)) (m ((c : Thread nD τ).loc main_arg1)) (m ((c : Thread nD τ).loc main_arg2))
    (m ((c : Thread nD τ).loc main_arg3)) t

/-! ## The slice read and the slice written at the counter -/

/-- The starts of both slices: the counter, and zero on the other two axes. -/
abbrev starts (n : IVec S_ 32) : Fin 3 → Int := fun k =>
  (((![n, constantI S_ 32 0#32, constantI S_ 32 0#32] : Fin 3 → (⟨S_, .i32⟩ : BufTy).Contents (Elt Ideal))) k (Shape.Idx.first h_S_)).toInt

/-- With the counter at `t < 512` the starts are `t, 0, 0`. -/
theorem starts_eq (t : ℕ) (ht : t < 512) (a : Fin 3) : starts (fun _ => BitVec.ofNat 32 t) a = ((![t, 0, 0] : Fin 3 → ℕ) a : Int) := by
  have h : (BitVec.ofNat 32 t).toInt = t := by
    rw [BitVec.toInt_eq_toNat_of_lt (by rw [BitVec.toNat_ofNat]; omega), BitVec.toNat_ofNat, Nat.mod_eq_of_lt (by omega)]
  match a with
  | ⟨0, _⟩ => exact h
  | ⟨1, _⟩ => rfl
  | ⟨2, _⟩ => rfl

/-- A time row starting at `t < 512` lies inside the array. -/
theorem fits (t : ℕ) (ht : t < 512) : S512x16x512.Slices ![t, 0, 0] S1x16x512 :=
  ⟨rfl, fun a => by
    match a with
    | ⟨0, _⟩ => show t + 1 ≤ 512; omega
    | ⟨1, _⟩ => show 0 + 16 ≤ 16; omega
    | ⟨2, _⟩ => show 0 + 512 ≤ 512; omega⟩

/-- The slice read with the counter at `t` is time row `t`. -/
theorem read_row (A : Vec Ideal S512x16x512 .f32) (t : ℕ) (ht : t < 512) :
    shapeCast S16x512 (Host.dynamicSlice S1x16x512 A (starts fun _ => BitVec.ofNat 32 t) sliceFits_S512x16x512_S1x16x512)
      shapeCasts_S1x16x512_S16x512 = fun y => A (ix3 ⟨t, ht⟩ (y 0) (y 1)) := by
  rw [WordCmp.dynamicSlice_eq_extract S1x16x512 A _ _ ![t, 0, 0] (fits t ht) (starts_eq t ht)]
  funext y
  idx_vars y
  pointwise

/-- The slice written with the counter at `t` replaces time row `t` and leaves the others. -/
theorem write_row (A : Vec Ideal S512x16x512 .f32) (h : Vec Ideal S16x512 .f32) (t : ℕ) (ht : t < 512) (u : Fin 512) (r : Fin 16) (k : Fin 512) :
    Host.dynamicUpdateSlice A (broadcastInDim S1x16x512 ![1, 2] bcast_S16x512_S1x16x512_1_2 h) (starts fun _ => BitVec.ofNat 32 t)
      updateFits_S512x16x512_S1x16x512 (ix3 u r k) = if u.val = t then h (ix2 r k) else A (ix3 u r k) := by
  rw [WordCmp.dynamicUpdateSlice_eq_update A _ _ _ ![t, 0, 0] (fits t ht) (starts_eq t ht)]
  pointwise
  simp only [show (t ≤ u.val ∧ u.val < t + 1) ↔ u.val = t by omega, dite_eq_ite]

/-! ## One trip -/

/-- What the loop's buffers hold before trip `t`: the input with time first, the weights and the bias, the counter at `t`,
    the state after `t` steps, and below row `t` of the output the states so far. -/
structure Before (t : ℕ) (V : Valuation τ sig (Elt Ideal)) : Prop where
  input : V (Proc.devRef .tc main_v3_0)
    = transpose S512x16x512 [1, 0, 2] (m ((c : Thread nD τ).loc main_arg0)) transposes_S16x512x512_S512x16x512_1_0_2
  wi : V (Proc.devRef .tc main_v3_1) = m ((c : Thread nD τ).loc main_arg1)
  wh : V (Proc.devRef .tc main_v3_2) = m ((c : Thread nD τ).loc main_arg2)
  bias : V (Proc.devRef .tc main_v3_3) = m ((c : Thread nD τ).loc main_arg3)
  counter : V (Proc.devRef .tc main_v3_4) = (fun _ => BitVec.ofNat 32 t : IVec S_ 32)
  hid : V (Proc.devRef .tc main_v3_5) = (fun y => state m c t (y 0) (y 1) : Vec Ideal S16x512 .f32)
  outs : ∀ (u : Fin 512) (r : Fin 16) (k : Fin 512), u.val < t →
    (V (Proc.devRef .tc main_v3_6) : Vec Ideal S512x16x512 .f32) (ix3 u r k) = state m c (u.val + 1) r k

variable {m c}

/-- A trip's new hidden state is the recurrence's next. -/
theorem hid_eq {t : ℕ} (ht : t < 512) {V : Valuation τ sig (Elt Ideal)} (h : Before m c t V) :
    res_main_while0b_v14 V = (fun y => state m c (t + 1) (y 0) (y 1) : Vec Ideal S16x512 .f32) := by
  funext y
  idx_vars y
  unfold res_main_while0b_v14
  rw [h.input, h.wi, h.wh, h.bias, h.counter, h.hid]
  erw [read_row _ t ht]
  pointwise
  have hs (x : Fin 512) : steps (m ((c : Thread nD τ).loc main_arg0)) t y0 x = m ((c : Thread nD τ).loc main_arg0) (ix3 y0 ⟨t, ht⟩ x) := by
    unfold steps
    simp only [Nat.mod_eq_of_lt ht]
  simp only [← hs]
  rfl

/-- One trip takes what holds before trip `t` to what holds before trip `t + 1`. -/
theorem trip {t : ℕ} (ht : t < 512) {V : Valuation τ sig (Elt Ideal)} (h : Before m c t V) : Before m c (t + 1) (STEP V) where
  input := (STEP_main_v3_0 V).trans h.input
  wi := (STEP_main_v3_1 V).trans h.wi
  wh := (STEP_main_v3_2 V).trans h.wh
  bias := (STEP_main_v3_3 V).trans h.bias
  counter := by
    rw [STEP_main_v3_4]
    unfold step_main_v3_4
    rw [h.counter]
    funext i
    show BitVec.ofNat 32 t + 1#32 = BitVec.ofNat 32 (t + 1)
    rw [BitVec.ofNat_add]
  hid := (STEP_main_v3_5 V).trans (hid_eq ht h)
  outs u r k hu := by
    rw [STEP_main_v3_6]
    unfold step_main_v3_6
    rw [hid_eq ht h, h.counter, id_eq]
    refine (write_row _ _ t ht u r k).trans ?_
    split
    · next e => rw [e]; rfl
    · next e => exact h.outs u r k (by omega)

variable (m c)

set_option maxRecDepth 65536 in
/-- What the loop starts from: counter zero, hidden state zero, no row filled in. -/
theorem entry : Before m c 0 (entryContents preI m c) where
  input := by
    simp only [entryContents, afterL_cons, afterL_nil]; after_reads_simp; rfl
  wi := by
    simp only [entryContents, afterL_cons, afterL_nil]; after_reads_simp; rfl
  wh := by
    simp only [entryContents, afterL_cons, afterL_nil]; after_reads_simp; rfl
  bias := by
    simp only [entryContents, afterL_cons, afterL_nil]; after_reads_simp; rfl
  counter := ctr_entry m c
  hid := by
    have h : entryContents preI m c (Proc.devRef .tc main_v3_5)
        = broadcastInDim S16x512 ![] bcast_S_S16x512 (constant (F := Ideal) S_ .f32 0x00000000#32) := by
      simp only [entryContents, afterL_cons, afterL_nil]; after_reads_simp; rfl
    rw [h]
    funext y
    idx_vars y
    pointwise
    rfl
  outs u r k hu := absurd hu (Nat.not_lt_zero _)

/-- Before every trip, and after the last. -/
theorem before_trip : ∀ t ≤ 512, Before m c t (STEP^[t] (entryContents preI m c))
  | 0, _ => entry m c
  | t + 1, ht => by
    rw [Function.iterate_succ_apply']
    exact trip ht (before_trip t (Nat.le_of_succ_le ht))

/-! ## The results -/

/-- The rows of the output, with the batch first, are the first result. -/
theorem outputs_eq : out_main_v4 (STEP^[512] (entryContents preI m c))
    = outputs (m ((c : Thread nD τ).loc main_arg0)) (m ((c : Thread nD τ).loc main_arg1)) (m ((c : Thread nD τ).loc main_arg2))
        (m ((c : Thread nD τ).loc main_arg3)) := by
  unfold out_main_v4
  funext y
  idx_vars y
  pointwise
  exact (before_trip m c 512 le_rfl).outs y1 y0 y2 y1.isLt

/-- Every execution of the reference terminates with its two results at `outputs` and `last` of its arguments, and the
    arguments unchanged. -/
theorem run : θ_run defs (onTc (τ := τ) (main (F := Ideal))) ⟨m, fun _ => 0, ρ⟩ fun r => ∀ c : Dev nD,
    r.2.mem ((c : Thread nD τ).loc main_v4)
        = outputs (m ((c : Thread nD τ).loc main_arg0)) (m ((c : Thread nD τ).loc main_arg1)) (m ((c : Thread nD τ).loc main_arg2))
            (m ((c : Thread nD τ).loc main_arg3))
    ∧ r.2.mem ((c : Thread nD τ).loc main_v3_5)
        = last (m ((c : Thread nD τ).loc main_arg0)) (m ((c : Thread nD τ).loc main_arg1)) (m ((c : Thread nD τ).loc main_arg2))
            (m ((c : Thread nD τ).loc main_arg3))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (outputs_eq m c), (h c).2.1.trans (before_trip m c 512 le_rfl).hid, (h c).2.2⟩)
    (Value.run m ρ)

/-- The reference declares no semaphore, so every final state has every counter at zero. -/
theorem quiet (s : MemSt nD τ sig (Elt Ideal)) : s.sem = fun _ => 0 := sem_eq_zero_of_no_sems rfl s

end Cert.ReferenceIdeal.Loop

end
-- ==== Proof.lean ====
/-
  The five claims (`Cert.Claim`, stated in `Defs`). The kernel's frames, at bits and at the extended reals, are read off its
  launch; the reference's is its run (`Cert.ReferenceIdeal.Loop.run`) and that it declares no semaphore. The algebraic claim
  joins the two runs: both programs end with `Cert.Rnn.outputs` and `Cert.Rnn.last` of the arguments they share.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem

/-- The reference terminates with its arguments unchanged and every semaphore counter at zero. -/
theorem reference_frame : quiescent_ReferenceIdeal (hReferenceIdeal := Cert.ReferenceIdeal.Gen.facts) := fun m g _ =>
  (θ_run Cert.ReferenceIdeal.defs _ _).mono (fun r h => ⟨fun c => (h c).2.2, Cert.ReferenceIdeal.Loop.quiet r.2⟩)
    (Cert.ReferenceIdeal.Loop.run m g)

/-- From memories that agree on the arguments, kernel and reference end with equal results, at the extended reals. -/
theorem values_agree : algebraic_KernelIdeal_ReferenceIdeal (hKernelIdeal := Cert.KernelIdeal.Gen.facts)
    (hReferenceIdeal := Cert.ReferenceIdeal.Gen.facts) := fun m g m' g' _ hagree =>
  ⟨_, _, Cert.KernelIdeal.Value.run m g,
    (θ_run Cert.ReferenceIdeal.defs _ _).mono (fun r h c => by
      obtain ⟨h0, h1, hargs⟩ := h c
      obtain ⟨a0, a1, a2, a3⟩ := hagree c
      rw [a0, a1, a2, a3] at h0 h1
      exact ⟨h0, h1, hargs⟩) (Cert.ReferenceIdeal.Loop.run m' g')⟩

/-- All five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, values_agree⟩

end Cert.Proof

end
